-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x768x640 : Shape := ⟨3, ![6, 768, 640]⟩
abbrev S1280x16x6912 : Shape := ⟨3, ![1280, 16, 6912]⟩
abbrev S1280 : Shape := ⟨1, ![1280]⟩
abbrev S4608x640 : Shape := ⟨2, ![4608, 640]⟩
abbrev S_ : Shape := ⟨0, ![]⟩
abbrev S4608x1280 : Shape := ⟨2, ![4608, 1280]⟩
abbrev S640x2 : Shape := ⟨2, ![640, 2]⟩
abbrev S2x640 : Shape := ⟨2, ![2, 640]⟩
abbrev S1x1280 : Shape := ⟨2, ![1, 1280]⟩
abbrev S640x2x16x6912 : Shape := ⟨4, ![640, 2, 16, 6912]⟩
abbrev S16x2x640x6912 : Shape := ⟨4, ![16, 2, 640, 6912]⟩
abbrev S16x1280x6912 : Shape := ⟨3, ![16, 1280, 6912]⟩
abbrev S4608x6912 : Shape := ⟨2, ![4608, 6912]⟩
abbrev S1x1280x256 : Shape := ⟨3, ![1, 1280, 256]⟩
abbrev S4608x256 : Shape := ⟨2, ![4608, 256]⟩
abbrev S1280x256 : Shape := ⟨2, ![1280, 256]⟩
abbrev S576x1280 : Shape := ⟨2, ![576, 1280]⟩
abbrev S576x256 : Shape := ⟨2, ![576, 256]⟩
abbrev S6x768x6912 : Shape := ⟨3, ![6, 768, 6912]⟩

abbrev nBuf : Space → Nat
  | .hbm => 23
  | .vmem => 7
  | .smem => 0
  | _ => 0

abbrev bufTy : (tb : Table) → Fin (tcTables nBuf tb) → BufTy
  | .hbm, ⟨0, _⟩ => ⟨S6x768x640, .i8⟩
  | .hbm, ⟨1, _⟩ => ⟨S1280x16x6912, .i8⟩
  | .hbm, ⟨2, _⟩ => ⟨S1280, .f32⟩
  | .hbm, ⟨3, _⟩ => ⟨S4608x640, .i8⟩
  | .hbm, ⟨4, _⟩ => ⟨S4608x640, .i32⟩
  | .hbm, ⟨5, _⟩ => ⟨S_, .i32⟩
  | .hbm, ⟨6, _⟩ => ⟨S4608x640, .i32⟩
  | .hbm, ⟨7, _⟩ => ⟨S4608x640, .i32⟩
  | .hbm, ⟨8, _⟩ => ⟨S_, .i32⟩
  | .hbm, ⟨9, _⟩ => ⟨S4608x640, .i32⟩
  | .hbm, ⟨10, _⟩ => ⟨S4608x640, .i32⟩
  | .hbm, ⟨11, _⟩ => ⟨S4608x1280, .i32⟩
  | .hbm, ⟨12, _⟩ => ⟨S4608x1280, .i8⟩
  | .hbm, ⟨13, _⟩ => ⟨S640x2, .f32⟩
  | .hbm, ⟨14, _⟩ => ⟨S2x640, .f32⟩
  | .hbm, ⟨15, _⟩ => ⟨S1x1280, .f32⟩
  | .hbm, ⟨16, _⟩ => ⟨S1x1280, .bf16⟩
  | .hbm, ⟨17, _⟩ => ⟨S1x1280, .f32⟩
  | .hbm, ⟨18, _⟩ => ⟨S640x2x16x6912, .i8⟩
  | .hbm, ⟨19, _⟩ => ⟨S16x2x640x6912, .i8⟩
  | .hbm, ⟨20, _⟩ => ⟨S16x1280x6912, .i8⟩
  | .hbm, ⟨21, _⟩ => ⟨S4608x6912, .bf16⟩
  | .hbm, ⟨22, _⟩ => ⟨S6x768x6912, .bf16⟩
  | .local _ .vmem, ⟨0, _⟩ => ⟨S4608x1280, .i8⟩
  | .local _ .vmem, ⟨1, _⟩ => ⟨S1x1280, .f32⟩
  | .local _ .vmem, ⟨2, _⟩ => ⟨S1x1280x256, .i8⟩
  | .local _ .vmem, ⟨3, _⟩ => ⟨S1x1280x256, .i8⟩
  | .local _ .vmem, ⟨4, _⟩ => ⟨S4608x256, .bf16⟩
  | .local _ .vmem, ⟨5, _⟩ => ⟨S4608x256, .bf16⟩
  | .local _ .vmem, ⟨6, _⟩ => ⟨S4608x256, .f32⟩
  | _, _ => ⟨S6x768x640, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![27, 16], ![false, false]⟩

@[reducible] def k0_t1_loop : Scf.Loop 32 :=
  let c0_i32_5 : BitVec 32 := 0#32
  let c8_i32 : BitVec 32 := 8#32
  let v8 : BitVec 32 := Scalar.addi c0_i32_5 c8_i32
  let c1_i32 : BitVec 32 := 1#32
  ⟨c0_i32_5, v8, c1_i32⟩
def k0_mult1 (k0_t1 : Fin k0_t1_loop.trips) : BitVec 32 :=
  let c0_i32_5 : BitVec 32 := 0#32
  let c1_i32 : BitVec 32 := 1#32
  let arg7 : BitVec 32 := Scf.iv c0_i32_5 c1_i32 k0_t1
  let c576_i32 : BitVec 32 := 576#32
  let v12 : BitVec 32 := Scalar.muli arg7 c576_i32
  v12
def k0_off1 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let c576_i32 : BitVec 32 := 576#32
  let v12 : BitVec 32 := Scalar.muli arg7 c576_i32
  let v13 : BitVec 32 := v12
  let v14 : Index := Scalar.indexCast v13
  let c0_8 : Index := 0#32
  ![v14.toNat, 0]
def k0_off2 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let c576_i32 : BitVec 32 := 576#32
  let v12 : BitVec 32 := Scalar.muli arg7 c576_i32
  let v13 : BitVec 32 := v12
  let v25 : Index := Scalar.indexCast v13
  let c0_9 : Index := 0#32
  ![v25.toNat, 0]
def k0_cond2 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4608x1280 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1280x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4608x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S6x768x640 : Shape := ⟨3, ![6, 768, 640]⟩
abbrev S1280x16x6912 : Shape := ⟨3, ![1280, 16, 6912]⟩
abbrev S1280 : Shape := ⟨1, ![1280]⟩
abbrev S_ : Shape := ⟨0, ![]⟩
abbrev S6x768x640x1 : Shape := ⟨4, ![6, 768, 640, 1]⟩
abbrev S1x1x1x16 : Shape := ⟨4, ![1, 1, 1, 16]⟩
abbrev S6x768x640x16 : Shape := ⟨4, ![6, 768, 640, 16]⟩
abbrev S640 : Shape := ⟨1, ![640]⟩
abbrev S640x1 : Shape := ⟨2, ![640, 1]⟩
abbrev S1x1x640x1 : Shape := ⟨4, ![1, 1, 640, 1]⟩
abbrev S640x2x16x6912 : Shape := ⟨4, ![640, 2, 16, 6912]⟩
abbrev S640x1x16x6912 : Shape := ⟨4, ![640, 1, 16, 6912]⟩
abbrev S640x16x6912 : Shape := ⟨3, ![640, 16, 6912]⟩
abbrev S6x768x6912 : Shape := ⟨3, ![6, 768, 6912]⟩

abbrev nBuf : Space → Nat
  | .hbm => 45
  | .vmem => 0
  | .smem => 0
  | _ => 0

abbrev bufTy : (tb : Table) → Fin (tcTables nBuf tb) → BufTy
  | .hbm, ⟨0, _⟩ => ⟨S6x768x640, .i8⟩
  | .hbm, ⟨1, _⟩ => ⟨S1280x16x6912, .i8⟩
  | .hbm, ⟨2, _⟩ => ⟨S1280, .f32⟩
  | .hbm, ⟨3, _⟩ => ⟨S6x768x640, .i32⟩
  | .hbm, ⟨4, _⟩ => ⟨S_, .i32⟩
  | .hbm, ⟨5, _⟩ => ⟨S6x768x640, .i32⟩
  | .hbm, ⟨6, _⟩ => ⟨S6x768x640, .i32⟩
  | .hbm, ⟨7, _⟩ => ⟨S_, .i32⟩
  | .hbm, ⟨8, _⟩ => ⟨S6x768x640, .i32⟩
  | .hbm, ⟨9, _⟩ => ⟨S6x768x640, .i32⟩
  | .hbm, ⟨10, _⟩ => ⟨S1280, .bf16⟩
  | .hbm, ⟨11, _⟩ => ⟨S6x768x640x1, .i32⟩
  | .hbm, ⟨12, _⟩ => ⟨S1x1x1x16, .i32⟩
  | .hbm, ⟨13, _⟩ => ⟨S6x768x640x16, .i32⟩
  | .hbm, ⟨14, _⟩ => ⟨S6x768x640x16, .i32⟩
  | .hbm, ⟨15, _⟩ => ⟨S6x768x640x16, .i1⟩
  | .hbm, ⟨16, _⟩ => ⟨S6x768x640x16, .bf16⟩
  | .hbm, ⟨17, _⟩ => ⟨S640, .bf16⟩
  | .hbm, ⟨18, _⟩ => ⟨S640x1, .bf16⟩
  | .hbm, ⟨19, _⟩ => ⟨S1x1x640x1, .bf16⟩
  | .hbm, ⟨20, _⟩ => ⟨S6x768x640x16, .bf16⟩
  | .hbm, ⟨21, _⟩ => ⟨S6x768x640x16, .bf16⟩
  | .hbm, ⟨22, _⟩ => ⟨S6x768x640x1, .i32⟩
  | .hbm, ⟨23, _⟩ => ⟨S1x1x1x16, .i32⟩
  | .hbm, ⟨24, _⟩ => ⟨S6x768x640x16, .i32⟩
  | .hbm, ⟨25, _⟩ => ⟨S6x768x640x16, .i32⟩
  | .hbm, ⟨26, _⟩ => ⟨S6x768x640x16, .i1⟩
  | .hbm, ⟨27, _⟩ => ⟨S6x768x640x16, .bf16⟩
  | .hbm, ⟨28, _⟩ => ⟨S640, .bf16⟩
  | .hbm, ⟨29, _⟩ => ⟨S640x1, .bf16⟩
  | .hbm, ⟨30, _⟩ => ⟨S1x1x640x1, .bf16⟩
  | .hbm, ⟨31, _⟩ => ⟨S6x768x640x16, .bf16⟩
  | .hbm, ⟨32, _⟩ => ⟨S6x768x640x16, .bf16⟩
  | .hbm, ⟨33, _⟩ => ⟨S1280x16x6912, .i32⟩
  | .hbm, ⟨34, _⟩ => ⟨S640x2x16x6912, .i32⟩
  | .hbm, ⟨35, _⟩ => ⟨S640x1x16x6912, .i32⟩
  | .hbm, ⟨36, _⟩ => ⟨S640x16x6912, .i32⟩
  | .hbm, ⟨37, _⟩ => ⟨S640x16x6912, .bf16⟩
  | .hbm, ⟨38, _⟩ => ⟨S640x1x16x6912, .i32⟩
  | .hbm, ⟨39, _⟩ => ⟨S640x16x6912, .i32⟩
  | .hbm, ⟨40, _⟩ => ⟨S640x16x6912, .bf16⟩
  | .hbm, ⟨41, _⟩ => ⟨S6x768x6912, .f32⟩
  | .hbm, ⟨42, _⟩ => ⟨S6x768x6912, .f32⟩
  | .hbm, ⟨43, _⟩ => ⟨S6x768x6912, .f32⟩
  | .hbm, ⟨44, _⟩ => ⟨S6x768x6912, .bf16⟩
  | _, _ => ⟨S6x768x640, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.KernelIdeal.Block

open Idealize.ShloMosaic Idealize.ShloMosaic.TcCoe Idealize.ShloMosaic.Tactic
open Cert.KernelIdeal Cert.KernelIdeal.Gen

/-- What one grid point adds to the accumulator at row `x`, column `n` of its block: the sum, over the 1280 code columns `k` whose
    code at row `x` is the point's centroid, of the column's scale times the table's entry for that column. `x0` holds the codes,
    `x1` the scales, `x2` the table rows of this centroid. -/
def term (i : grid0.Coords) (x0 : Vec Ideal S4608x1280 .i8) (x1 : Vec Ideal S1x1280 .f32) (x2 : Vec Ideal S1x1280x256 .i8)
    (x : Fin 4608) (n : Fin 256) : EReal :=
  ∑ k : Fin 1280, Scalar.select (IntOp.cmpi CmpIPredicate.eq (BitVec.signExtend 32 (x0 (ix2 x k))) (BitVec.ofNat 32 (i 1).val))
    (x1 (ix2 0 k) * FloatOps.sitofp (F := Ideal) FTy.bf16 (x2 (ix3 0 k n)) : EReal) 0

/-- The payload of one trip's store, at an index: what the accumulator's rows held, plus the selected scales times the table. -/
theorem pay2_apply (i : grid0.Coords) (v3 : Vec Ideal S1x1280x256 .i8) (v6 : Vec Ideal S1x1280 .f32) (v15 : Vec Ideal S576x1280 .i8)
    (v26 : Vec Ideal S576x256 .f32) (r : Fin 576) (n : Fin 256) :
    k0_pay2 i v3 v6 v15 v26 (ix2 r n) = (v26 (ix2 r n)
      + ∑ k : Fin 1280, Scalar.select (IntOp.cmpi CmpIPredicate.eq (BitVec.signExtend 32 (v15 (ix2 r k))) (BitVec.ofNat 32 (i 1).val))
          (v6 (ix2 0 k) * FloatOps.sitofp (F := Ideal) FTy.bf16 (v3 (ix3 0 k n)) : EReal) 0 : EReal) := by
  pointwise [k0_pay2]

/-- The accumulator rows of trip `k` begin at row `576 k`. -/
theorem off2 : ∀ k : Fin k0_t1_loop.trips, k0_off2 k = ![576 * k.val, 0] := by decide +kernel

/-- The code rows of trip `k` begin at row `576 k`. -/
theorem off1 : ∀ k : Fin k0_t1_loop.trips, k0_off1 k = ![576 * k.val, 0] := by decide +kernel

/-- The loop makes eight trips. -/
theorem trips_eq : k0_t1_loop.trips = 8 := by decide +kernel

/-- Reading rows `576 k …` of a rank-2 array through a load's rectangle reads the array at the shifted row. -/
theorem readAt_rows {W : ℕ} {e : EltTy} (v : View sig .tc .vmem (⟨2, ![4608, W]⟩ : Shape) e) (f : BufTy.Contents (Elt Ideal) v.ty)
    (off : Fin 2 → ℕ) (o : ℕ) (hoff : off = ![o, 0]) (inb : ∀ a, off a + (![576, W] : Fin 2 → ℕ) a ≤ (![4608, W] : Fin 2 → ℕ) a)
    (r : Fin 576) (n : Fin W) (x : Fin 4608) (hx : x.val = o + r.val) :
    View.readAt (Elt Ideal) v (Rect.unit (s := ⟨2, ![4608, W]⟩) off (![576, W] : Fin 2 → ℕ) inb).toLoadRect f (ix2 r n)
      = v.read (Elt Ideal) f (ix2 x n) := by
  subst hoff
  rw [View.readAt_apply]
  congr 1
  funext a
  apply Fin.ext
  match a with
  | ⟨0, _⟩ => show o + 1 * r.val = x.val; omega
  | ⟨1, _⟩ => show 0 + 1 * n.val = n.val; omega

/-- The pieces that the loop's first `n` trips write, read back: below row `576 n` the accumulator's entry contents plus the point's
    `term`, above it the entry contents. -/
theorem pb_read (c : Dev nD) (i : grid0.Coords) (arg2 : Memref sig .tc .vmem S4608x1280 .i8) (harg2 : arg2.IsWhole)
    (arg3 : Memref sig .tc .vmem S1x1280 .f32) (harg3 : arg3.IsWhole) (arg4 : Memref sig .tc .vmem S1x1280x256 .i8) (harg4 : arg4.IsWhole)
    (arg5 : Memref sig .tc .vmem S4608x256 .bf16) (harg5 : arg5.IsWhole) (arg6 : Memref sig .tc .vmem S4608x256 .f32) (harg6 : arg6.IsWhole)
    (x0 : Vec Ideal S4608x1280 .i8) (x1 : Vec Ideal S1x1280 .f32) (x2 : Vec Ideal S1x1280x256 .i8)
    (G : BufTy.Contents (Elt Ideal) arg6.view.ty) (x : Fin 4608) (y : Fin 256) : ∀ n : ℕ, n ≤ 8 →
    arg6.view.read (Elt Ideal) (arg6.view.writes (Elt Ideal) G
        (pb_k0_t1 (F := Ideal) Variants.none c none i arg2 harg2 arg3 harg3 arg4 harg4 arg5 harg5 arg6 harg6 x2 x1 (harg2.unread x0) G n)) (ix2 x y)
      = if x.val < 576 * n then (arg6.view.read (Elt Ideal) G (ix2 x y) + term i x0 x1 x2 x y : EReal)
        else arg6.view.read (Elt Ideal) G (ix2 x y)
  | 0, _ => by
    rw [if_neg (by omega)]
    rfl
  | n + 1, hn => by
    have hk : n < k0_t1_loop.trips := by rw [trips_eq]; omega
    have ih := pb_read c i arg2 harg2 arg3 harg3 arg4 harg4 arg5 harg5 arg6 harg6 x0 x1 x2 G x y n (by omega)
    have e := pb_k0_t1_succ (F := Ideal) Variants.none c none i arg2 harg2 arg3 harg3 arg4 harg4 arg5 harg5 arg6 harg6 x2 x1 (harg2.unread x0) G ⟨n, hk⟩
    rw [show (⟨n, hk⟩ : Fin k0_t1_loop.trips).val = n from rfl] at e
    rw [e]
    generalize pb_k0_t1 (F := Ideal) Variants.none c none i arg2 harg2 arg3 harg3 arg4 harg4 arg5 harg5 arg6 harg6 x2 x1 (harg2.unread x0) G n = L at ih ⊢
    unfold tripL_k0_t1 trip_k0_t1
    dsimp only
    rw [List.singleton_append]
    by_cases hx : 576 * n ≤ x.val ∧ x.val < 576 * n + 576
    · have hr : x.val - 576 * n < 576 := by omega
      rw [if_pos (by omega)]
      rw [if_neg (by omega)] at ih
      refine (View.read_writes_cons_unit_of_mem (s := S4608x256) (size := ![576, 256]) arg6.view G _ _ L (ix2 x y)
        (ix2 (⟨x.val - 576 * n, hr⟩ : Fin 576) y) (off2 ⟨n, hk⟩) (fun a => by
          match a with
          | ⟨0, _⟩ => show x.val = 576 * n + (x.val - 576 * n); omega
          | ⟨1, _⟩ => show y.val = 0 + y.val; omega)).trans ?_
      rw [pay2_apply]
      rw [readAt_rows (W := 256) arg6.view _ _ _ (off2 ⟨n, hk⟩) _ _ y x (by show x.val = 576 * n + (x.val - 576 * n); omega), ih]
      refine Ideal.add_congr rfl ?_
      unfold term
      refine Finset.sum_congr rfl fun k _ => ?_
      rw [readAt_rows (W := 1280) arg2.view _ _ _ (off1 ⟨n, hk⟩) _ _ k x (by show x.val = 576 * n + (x.val - 576 * n); omega), harg2.read_unread]
    · refine (View.read_writes_cons_unit_of_not_mem (s := S4608x256) (size := ![576, 256]) arg6.view G _ _ L (ix2 x y) (off2 ⟨n, hk⟩)
        (0 : Fin 2) (by show x.val < 576 * n ∨ 576 * n + 576 ≤ x.val; omega)).trans ?_
      rw [ih]
      by_cases h : x.val < 576 * n
      · rw [if_pos h, if_pos (by omega)]
      · rw [if_neg h, if_neg (by omega)]

/-- The whole loop's pieces, read back: every entry of the accumulator has gained the point's `term`. -/
theorem loop_read (c : Dev nD) (i : grid0.Coords) (arg2 : Memref sig .tc .vmem S4608x1280 .i8) (harg2 : arg2.IsWhole)
    (arg3 : Memref sig .tc .vmem S1x1280 .f32) (harg3 : arg3.IsWhole) (arg4 : Memref sig .tc .vmem S1x1280x256 .i8) (harg4 : arg4.IsWhole)
    (arg5 : Memref sig .tc .vmem S4608x256 .bf16) (harg5 : arg5.IsWhole) (arg6 : Memref sig .tc .vmem S4608x256 .f32) (harg6 : arg6.IsWhole)
    (x0 : Vec Ideal S4608x1280 .i8) (x1 : Vec Ideal S1x1280 .f32) (x2 : Vec Ideal S1x1280x256 .i8)
    (G : BufTy.Contents (Elt Ideal) arg6.view.ty) (x : Fin 4608) (y : Fin 256) :
    arg6.view.read (Elt Ideal) (arg6.view.writes (Elt Ideal) G
        (pb_k0_t1 (F := Ideal) Variants.none c none i arg2 harg2 arg3 harg3 arg4 harg4 arg5 harg5 arg6 harg6 x2 x1 (harg2.unread x0) G
          (Scf.trips (0#32) (Scalar.addi 0#32 8#32) 1#32))) (ix2 x y)
      = (arg6.view.read (Elt Ideal) G (ix2 x y) + term i x0 x1 x2 x y : EReal) := by
  rw [show Scf.trips (0#32) (Scalar.addi 0#32 8#32) 1#32 = 8 from trips_eq, pb_read c i arg2 harg2 arg3 harg3 arg4 harg4 arg5 harg5 arg6 harg6 x0 x1 x2 G x y 8 (le_refl 8),
    if_pos (by omega)]

/-- Reading the whole scratch after pieces that cover it does not depend on the view or on what it held. -/
theorem read_scratch (arg6 : Memref sig .tc .vmem S4608x256 .f32) (G : BufTy.Contents (Elt Ideal) arg6.view.ty)
    (L : List (View.Piece (Elt Ideal) S4608x256 .f32)) (y : S4608x256.Idx) (h : ∃ p ∈ L, y ∈ p.1.set) :
    VS0_0.read (Elt Ideal) (VS0_0.writes (Elt Ideal) VS0_0.junk L) y
      = arg6.view.read (Elt Ideal) (arg6.view.writes (Elt Ideal) G L) y := by
  rw [View.read_writes_apply_eq_canon _ _ y L h, View.read_writes_apply_eq_canon _ _ y L h]

/-- At a column block's first centroid the accumulator ends at that point's `term`. -/
theorem sout_A (c : Dev nD) (i : grid0.Coords) (arg2 : Memref sig .tc .vmem S4608x1280 .i8) (harg2 : arg2.IsWhole)
    (arg3 : Memref sig .tc .vmem S1x1280 .f32) (harg3 : arg3.IsWhole) (arg4 : Memref sig .tc .vmem S1x1280x256 .i8) (harg4 : arg4.IsWhole)
    (arg5 : Memref sig .tc .vmem S4608x256 .bf16) (harg5 : arg5.IsWhole) (arg6 : Memref sig .tc .vmem S4608x256 .f32) (harg6 : arg6.IsWhole) (hc0 : cond0_0 i) (hc1 : ¬cond0_1 i)
    (x0 : Vec Ideal S4608x1280 .i8) (x1 : Vec Ideal S1x1280 .f32) (x2 : Vec Ideal S1x1280x256 .i8) (x : Fin 4608) (y : Fin 256) :
    sout0_A_0 c i arg2 harg2 arg3 harg3 arg4 harg4 arg5 harg5 arg6 harg6 hc0 hc1 x0 x1 x2 (ix2 x y) = term i x0 x1 x2 x y := by
  unfold sout0_A_0
  frame_out
  rw [← View.read_writes_junk_apply_eq_canon arg6.view (ix2 x y), View.writes_append, loop_read]
  have h0 : arg6.view.read (Elt Ideal) (arg6.view.writes (Elt Ideal) arg6.view.junk
      [⟨Rect.unit (s := S4608x256) ![0, 0] ![4608, 256] inb_S4608x256_S4608x256_0_0, k0_pay1 (F := Ideal)⟩]) (ix2 x y) = (0 : EReal) := by
    refine (View.read_writes_cons_unit_of_mem (s := S4608x256) (size := ![4608, 256]) arg6.view _ _ _ [] (ix2 x y)
      (ix2 x y) (rfl : (![0, 0] : Fin 2 → ℕ) = ![0, 0]) (fun a => by
        match a with
        | ⟨0, _⟩ => show x.val = 0 + x.val; omega
        | ⟨1, _⟩ => show y.val = 0 + y.val; omega)).trans ?_
    pointwise [k0_pay1]
  rw [h0]
  exact zero_add _

/-- At a later centroid the accumulator gains that point's `term`. -/
theorem sout_B (c : Dev nD) (i : grid0.Coords) (arg2 : Memref sig .tc .vmem S4608x1280 .i8) (harg2 : arg2.IsWhole)
    (arg3 : Memref sig .tc .vmem S1x1280 .f32) (harg3 : arg3.IsWhole) (arg4 : Memref sig .tc .vmem S1x1280x256 .i8) (harg4 : arg4.IsWhole)
    (arg5 : Memref sig .tc .vmem S4608x256 .bf16) (harg5 : arg5.IsWhole) (arg6 : Memref sig .tc .vmem S4608x256 .f32) (harg6 : arg6.IsWhole) (hc0 : ¬cond0_0 i) (hc1 : ¬cond0_1 i)
    (x0 : Vec Ideal S4608x1280 .i8) (x1 : Vec Ideal S1x1280 .f32) (x2 : Vec Ideal S1x1280x256 .i8) (xs0 : Vec Ideal S4608x256 .f32)
    (x : Fin 4608) (y : Fin 256) :
    sout0_B_0 c i arg2 harg2 arg3 harg3 arg4 harg4 arg5 harg5 arg6 harg6 hc0 hc1 x0 x1 x2 xs0 (ix2 x y) = (xs0 (ix2 x y) + term i x0 x1 x2 x y : EReal) := by
  have hcov := scover0_B_0 c i arg2 harg2 arg3 harg3 arg4 harg4 arg5 harg5 arg6 harg6 hc0 hc1 x0 x1 x2 xs0 (ix2 x y)
  unfold sout0_B_0
  rw [read_scratch arg6 (harg6.unread xs0) _ _ hcov]
  frame_out
  rw [loop_read, harg6.read_unread]

/-- At the last centroid too the accumulator gains that point's `term`. -/
theorem sout_C (c : Dev nD) (i : grid0.Coords) (arg2 : Memref sig .tc .vmem S4608x1280 .i8) (harg2 : arg2.IsWhole)
    (arg3 : Memref sig .tc .vmem S1x1280 .f32) (harg3 : arg3.IsWhole) (arg4 : Memref sig .tc .vmem S1x1280x256 .i8) (harg4 : arg4.IsWhole)
    (arg5 : Memref sig .tc .vmem S4608x256 .bf16) (harg5 : arg5.IsWhole) (arg6 : Memref sig .tc .vmem S4608x256 .f32) (harg6 : arg6.IsWhole) (hc0 : ¬cond0_0 i) (hc1 : cond0_1 i)
    (x0 : Vec Ideal S4608x1280 .i8) (x1 : Vec Ideal S1x1280 .f32) (x2 : Vec Ideal S1x1280x256 .i8) (xs0 : Vec Ideal S4608x256 .f32)
    (x : Fin 4608) (y : Fin 256) :
    sout0_C_0 c i arg2 harg2 arg3 harg3 arg4 harg4 arg5 harg5 arg6 harg6 hc0 hc1 x0 x1 x2 xs0 (ix2 x y) = (xs0 (ix2 x y) + term i x0 x1 x2 x y : EReal) := by
  have hcov := scover0_C_0 c i arg2 harg2 arg3 harg3 arg4 harg4 arg5 harg5 arg6 harg6 hc0 hc1 x0 x1 x2 xs0 (ix2 x y)
  unfold sout0_C_0
  rw [read_scratch arg6 (harg6.unread xs0) _ _ hcov]
  frame_out
  rw [loop_read, harg6.read_unread]

/-- The last centroid's point stores the accumulator, so the output block is the entering accumulator plus the point's `term`. -/
theorem out_C (c : Dev nD) (i : grid0.Coords) (arg2 : Memref sig .tc .vmem S4608x1280 .i8) (harg2 : arg2.IsWhole)
    (arg3 : Memref sig .tc .vmem S1x1280 .f32) (harg3 : arg3.IsWhole) (arg4 : Memref sig .tc .vmem S1x1280x256 .i8) (harg4 : arg4.IsWhole)
    (arg5 : Memref sig .tc .vmem S4608x256 .bf16) (harg5 : arg5.IsWhole) (arg6 : Memref sig .tc .vmem S4608x256 .f32) (harg6 : arg6.IsWhole) (hc0 : ¬cond0_0 i) (hc1 : cond0_1 i)
    (x0 : Vec Ideal S4608x1280 .i8) (x1 : Vec Ideal S1x1280 .f32) (x2 : Vec Ideal S1x1280x256 .i8) (xs0 : Vec Ideal S4608x256 .f32)
    (x : Fin 4608) (y : Fin 256) :
    out0_C_3 c i arg2 harg2 arg3 harg3 arg4 harg4 arg5 harg5 arg6 harg6 hc0 hc1 x0 x1 x2 xs0 (ix2 x y) = (xs0 (ix2 x y) + term i x0 x1 x2 x y : EReal) := by
  unfold out0_C_3 kernelRun0_C
  frame_out
  show View.read (Elt Ideal) arg6.view _ (ix2 x y) = _
  rw [loop_read, harg6.read_unread]

end Cert.KernelIdeal.Block
-- ==== Proof.Fold.lean ====
module

public import proofs.«01_k».proof.Proof.Block
public import Idealize.ShloMosaic.Lib.Pipeline.Covers

@[expose] public section

set_option maxRecDepth 16384

noncomputable section

namespace Cert.KernelIdeal.Fold

open Idealize.ShloMosaic Idealize.ShloMosaic.TcCoe Idealize.ShloMosaic.Tactic
open Cert.KernelIdeal Cert.KernelIdeal.Gen Cert.KernelIdeal.Block

variable (m : (ℓ : Loc nD τ sig) → Buf (Elt Ideal) ℓ)

/-- The code array the launch reads. -/
abbrev codesV (c : Dev nD) : Vec Ideal S4608x1280 .i8 := V m c main_v7

/-- The scale row the launch reads. -/
abbrev scalesV (c : Dev nD) : Vec Ideal S1x1280 .f32 := V m c main_v12

/-- The table array the launch reads. -/
abbrev tablesV (c : Dev nD) : Vec Ideal S16x1280x6912 .i8 := V m c main_v15

/-- Centroid `k`'s share of the result at row `x`, column `n`. -/
def share (c : Dev nD) (k : Fin 16) (x : Fin 4608) (n : Fin 6912) : EReal :=
  ∑ q : Fin 1280, Scalar.select (IntOp.cmpi CmpIPredicate.eq (BitVec.signExtend 32 (codesV m c (ix2 x q))) (BitVec.ofNat 32 k.val))
    (scalesV m c (ix2 0 q) * FloatOps.sitofp (F := Ideal) FTy.bf16 (tablesV m c (ix3 k q n)) : EReal) 0

/-- A point's column block and centroid. -/
theorem coords_eq (t : Fin cfg0.N) : (grid0.coords t 0).val = t.val / 16 ∧ (grid0.coords t 1).val = t.val % 16 := by
  have ht : t.val < 432 := Nat.lt_of_lt_of_eq t.isLt N_0
  have e0 : (grid0.coords t 0).val = t.val / 16 % 27 := Pipeline.Grid.coords_val t 0 (by decide) rfl
  have e1 : (grid0.coords t 1).val = t.val / 1 % 16 := Pipeline.Grid.coords_val t 1 (by decide) rfl
  omega

/-- Every point reads the code array's one block. -/
theorem idx0 (t : Fin cfg0.N) : win0_0.index t = ![0, 0] := rfl

/-- Every point reads the scale row's one block. -/
theorem idx1 (t : Fin cfg0.N) : win0_1.index t = ![0, 0] := rfl

/-- Point `t` reads the table block of centroid `t % 16` and column block `t / 16`. -/
theorem idx2 : ∀ t : Fin cfg0.N, win0_2.index t = ![t.val % 16, 0, t.val / 16] := by decide +kernel

/-- Point `t` writes column block `t / 16` of the result. -/
theorem idx3 : ∀ t : Fin cfg0.N, win0_3.index t = ![0, t.val / 16] := by decide +kernel

/-- The code block of a point is the whole code array. -/
theorem iblk0 (c : Dev nD) (t : Fin cfg0.N) (x : Fin 4608) (q : Fin 1280) :
    (iblk m c 0 t : Vec Ideal S4608x1280 .i8) (ix2 x q) = codesV m c (ix2 x q) := by
  blk_ext [iblk, idx0 t]

/-- The scale block of a point is the whole scale row. -/
theorem iblk1 (c : Dev nD) (t : Fin cfg0.N) (q : Fin 1280) :
    (iblk m c 1 t : Vec Ideal S1x1280 .f32) (ix2 0 q) = scalesV m c (ix2 0 q) := by
  blk_ext [iblk, idx1 t]

/-- The table block of a point, at an entry: centroid `t % 16` of the table array, at the column block's column. -/
theorem iblk2 (c : Dev nD) (t : Fin cfg0.N) (q : Fin 1280) (y : Fin 256) (k : Fin 16) (n : Fin 6912) (hk : k.val = t.val % 16)
    (hn : n.val = t.val / 16 * 256 + y.val) :
    (iblk m c 2 t : Vec Ideal S1x1280x256 .i8) (ix3 0 q y) = tablesV m c (ix3 k q n) := by
  blk_ext [iblk, idx2 t]

/-- What point `t` adds to the accumulator at row `x`, column `y` of its block. -/
def part (c : Dev nD) (t : Fin cfg0.N) (y : S4608x256.Idx) : EReal :=
  term (grid0.coords t) (iblk m c 0 t) (iblk m c 1 t) (iblk m c 2 t) (y 0) (y 1)

/-- What a point adds is its centroid's share at the point's column. -/
theorem part_eq (c : Dev nD) (t : Fin cfg0.N) (x : Fin 4608) (y : Fin 256) (k : Fin 16) (n : Fin 6912) (hk : k.val = t.val % 16)
    (hn : n.val = t.val / 16 * 256 + y.val) : part m c t (ix2 x y) = share m c k x n := by
  show term (grid0.coords t) (iblk m c 0 t) (iblk m c 1 t) (iblk m c 2 t) x y = _
  unfold term share
  refine Finset.sum_congr rfl fun q _ => ?_
  rw [iblk0 m c t x q, iblk1 m c t q, iblk2 m c t q y k n hk hn, (coords_eq t).2, ← hk]

/-- The accumulator after a column block's last point: the sum of the block's sixteen parts. -/
theorem acc_last (c : Dev nD) (t : Fin cfg0.N) (ht : t.val % 16 = 15) (y : S4608x256.Idx) :
    (outsAt0 m c t.val t.isLt).2 y = (0 + ∑ s : Fin 16, part m c ⟨16 * (t.val / 16) + s.val, Pipeline.run_point_lt_of_flush (J := 16) t ht s⟩ y : EReal) := by
  refine Pipeline.eq_sum_fin_of_reset_step_apply_of_flush (M := EReal) (fun n h => (outsAt0 m c n h).2) 16 (fun _ => 0) (part m c)
    (fun t h y => ?_) (fun t h y => ?_) t ht y
  · idx_vars y
    rw [outsAt0_A m c t h (by omega)]
    dsimp only
    rw [sout_A]
    exact (zero_add _).symm
  · idx_vars y
    by_cases h1 : t.val % 16 = 15
    · rw [outsAt0_C m c t h h1]
      dsimp only
      rw [sout_C]
      rfl
    · rw [outsAt0_B m c t h h1]
      dsimp only
      rw [sout_B]
      rfl

/-- The output block at a column block's last point is the accumulator. -/
theorem out_last (c : Dev nD) (t : Fin cfg0.N) (ht : t.val % 16 = 15) (y : S4608x256.Idx) :
    ((outsAt0 m c t.val t.isLt).1 y : EReal) = (outsAt0 m c t.val t.isLt).2 y := by
  idx_vars y
  rw [outsAt0_C m c t (by omega) ht]
  dsimp only
  rw [sout_C, out_C]

/-- The output block at a column block's last point: at row `x`, column `y` the sum of the sixteen centroids' shares at the block's
    column. -/
theorem block_value (c : Dev nD) (t : Fin cfg0.N) (ht : t.val % 16 = 15) (x : Fin 4608) (y : Fin 256) (n : Fin 6912)
    (hn : n.val = t.val / 16 * 256 + y.val) :
    ((outsAt0 m c t.val t.isLt).1 (ix2 x y) : EReal) = ∑ k : Fin 16, share m c k x n := by
  rw [out_last m c t ht, acc_last m c t ht]
  refine (zero_add _).trans ?_
  refine Finset.sum_congr rfl fun k _ => ?_
  have hk : k.val < 16 := k.isLt
  refine part_eq m c _ x y k n ?_ ?_
  · show k.val = (16 * (t.val / 16) + k.val) % 16
    omega
  · show n.val = (16 * (t.val / 16) + k.val) / 16 * 256 + y.val
    omega

/-- The launch's result array: at row `x`, column `n` the sum of the sixteen centroids' shares. -/
def result (c : Dev nD) : Vec Ideal S4608x6912 .bf16 := fun i => (∑ k : Fin 16, share m c k (i 0) (i 1) : EReal)

/-- The 27 written-back blocks make up the result array. -/
theorem final (c : Dev nD) : (dats m 0 c).arrAt 3 cfg0.N = result m c := by
  refine (dats m 0 c).arrAt_eq_of_covers 3 _ (by decide +kernel) fun t hf y => ?_
  have ht := (flush0_3 t).mp hf
  have h0 : ((win0_3.blk t).view.emb y 0).val = (y 0).val := by blk_simp [idx3 t]
  have h1 : ((win0_3.blk t).view.emb y 1).val = t.val / 16 * 256 + (y 1).val := by blk_simp [idx3 t]
  blk_simp
  rw [after0_3]
  have hy : (y : S4608x256.Idx) = ix2 ((win0_3.blk t).view.emb y 0) (y 1) := by
    funext a
    match a with
    | ⟨0, _⟩ => exact Fin.ext h0.symm
    | ⟨1, _⟩ => rfl
  exact (congrArg (outsAt0 m c t.val t.isLt).1 hy).trans (block_value m c t ht _ (y 1) _ h1)

end Cert.KernelIdeal.Fold
-- ==== Proof.Words.lean ====
module

public import Idealize.ShloMosaic.Lib.Pointwise
public import Idealize.ShloMosaic.Lib.KernelVsHost

@[expose] public section

set_option maxRecDepth 16384

noncomputable section

namespace Cert.Words

open Idealize.ShloMosaic

/-- The code that the low four bits of a byte hold, as a 32-bit word. -/
def low (v : BitVec 8) : BitVec 32 := IntOp.andi (BitVec.setWidth 32 v) 15#32

/-- The code that the high four bits of a byte hold, as a 32-bit word. -/
def high (v : BitVec 8) : BitVec 32 := IntOp.shrsi ArithUnit.host (BitVec.setWidth 32 v) 4#32

/-- A low code fits a signed byte: cut to eight bits and extended by its sign it is the same word. -/
theorem low_byte : ∀ v : BitVec 8, BitVec.signExtend 32 (BitVec.setWidth 8 (low v)) = low v := by
  decide +kernel

/-- A high code fits a signed byte: cut to eight bits and extended by its sign it is the same word. -/
theorem high_byte : ∀ v : BitVec 8, BitVec.signExtend 32 (BitVec.setWidth 8 (high v)) = high v := by
  decide +kernel

/-- What one code adds to an output entry through table column `k`: the scaled table value if the code is `k`, else zero. `w` is the code,
    `sc` its scale and `t` the table value. -/
def part (w : BitVec 32) (k : Fin 16) (sc : EReal) (t : BitVec 8) : EReal :=
  Scalar.select (IntOp.cmpi CmpIPredicate.eq w (BitVec.ofNat 32 k.val)) (sc * FloatOps.sitofp (F := Ideal) FTy.bf16 t : EReal) 0

/-- The one-hot form of the same value: the bit "the code is `k`" as a number, times the scale, times the table value read from 32 bits. -/
theorem oneHot_eq_part (w : BitVec 32) (k : Fin 16) (sc : EReal) (t : BitVec 8) :
    (FloatOps.uitofp (F := Ideal) FTy.bf16 (IntOp.cmpi CmpIPredicate.eq w (BitVec.ofNat 32 k.val)) : EReal) * sc
      * (FloatOps.sitofp (F := Ideal) FTy.bf16 (BitVec.signExtend 32 t) : EReal) = part w k sc t := by
  have ht : (FloatOps.sitofp (F := Ideal) FTy.bf16 (BitVec.signExtend 32 t) : EReal) = FloatOps.sitofp (F := Ideal) FTy.bf16 t := by
    show (((BitVec.signExtend 32 t).toInt : ℝ) : EReal) = ((t.toInt : ℝ) : EReal)
    rw [BitVec.toInt_signExtend_of_le (by decide)]
  unfold part
  rw [ht]
  generalize IntOp.cmpi CmpIPredicate.eq w (BitVec.ofNat 32 k.val) = c
  rcases BitVec.eq_zero_or_eq_one c with h | h
  · subst h
    have h0 : (FloatOps.uitofp (F := Ideal) FTy.bf16 (0#1) : EReal) = 0 := by
      show ((((0#1).toNat : ℝ)) : EReal) = 0
      simp
    rw [h0, zero_mul, zero_mul]; rfl
  · subst h
    have h1 : (FloatOps.uitofp (F := Ideal) FTy.bf16 (1#1) : EReal) = 1 := by
      show ((((1#1).toNat : ℝ)) : EReal) = 1
      simp
    rw [h1, one_mul]; rfl

end Cert.Words
-- ==== Proof.Operands.lean ====
module

public import proofs.«01_k».proof.Proof.Fold
public import proofs.«01_k».proof.Proof.Words

@[expose] public section

set_option maxRecDepth 16384

noncomputable section

namespace Cert.KernelIdeal.Operands

open Idealize.ShloMosaic Idealize.ShloMosaic.TcCoe Idealize.ShloMosaic.Tactic
open Cert.KernelIdeal Cert.KernelIdeal.Gen Cert.KernelIdeal.Fold Cert.Words

variable (m : (ℓ : Loc nD τ sig) → Buf (Elt Ideal) ℓ)

/-- The packed codes of a device, as passed. -/
abbrev codesA (c : Dev nD) : Vec Ideal S6x768x640 .i8 := m ((c.tc : Thread nD τ).loc main_arg0)

/-- The tables of a device, as passed. -/
abbrev tablesA (c : Dev nD) : Vec Ideal S1280x16x6912 .i8 := m ((c.tc : Thread nD τ).loc main_arg1)

/-- The scales of a device, as passed. -/
abbrev scalesA (c : Dev nD) : Vec Ideal S1280 .f32 := m ((c.tc : Thread nD τ).loc main_arg2)

/-- The code array of the launch: row `x` is row `x % 768` of batch `x / 768`; its first 640 columns hold the low codes and the other 640 the
    high codes, each in a byte. -/
theorem codes_at (c : Dev nD) (x : Fin 4608) (q : Fin 1280) :
    codesV m c (ix2 x q) = BitVec.setWidth 8 (if h : q.val < 640
      then low (codesA m c (ix3 ⟨x.val / 768, by omega⟩ ⟨x.val % 768, by omega⟩ ⟨q.val, h⟩))
      else high (codesA m c (ix3 ⟨x.val / 768, by omega⟩ ⟨x.val % 768, by omega⟩ ⟨q.val - 640, by omega⟩))) := by
  unfold low high
  unfold codesV V V0
  simp only [List.flatten_cons, List.flatten_nil, List.append_nil]
  after_results
  pointwise

/-- The scale row of the launch: the even scales, then the odd ones. -/
theorem scales_at (c : Dev nD) (q : Fin 1280) :
    (scalesV m c (ix2 0 q) : EReal) = scalesA m c (ix1 ⟨q.val % 640 * 2 + q.val / 640, by omega⟩) := by
  unfold scalesV V V0
  simp only [List.flatten_cons, List.flatten_nil, List.append_nil]
  after_results
  pointwise

/-- The table array of the launch: its columns come first, and the even table rows before the odd ones. -/
theorem tables_at (c : Dev nD) (k : Fin 16) (q : Fin 1280) (n : Fin 6912) :
    tablesV m c (ix3 k q n) = tablesA m c (ix3 ⟨q.val % 640 * 2 + q.val / 640, by omega⟩ k n) := by
  unfold tablesV V V0
  simp only [List.flatten_cons, List.flatten_nil, List.append_nil]
  after_results
  pointwise

end Cert.KernelIdeal.Operands
-- ==== Proof.Reference.lean ====
module

public import proofs.«01_k».proof.Proof.Gen.ReferenceIdeal.Run
public import proofs.«01_k».proof.Proof.Words
public import Idealize.ShloMosaic.Lib.Claim

@[expose] public section

set_option maxRecDepth 16384

noncomputable section

namespace Cert.ReferenceIdeal.Ref

open Idealize.ShloMosaic Idealize.ShloMosaic.TcCoe Idealize.ShloMosaic.Tactic
open Cert.ReferenceIdeal Cert.ReferenceIdeal.Gen Cert.Words

/-- One half of the reference: the rows' one-hot codes, scaled, contracted with a half of the tables. `word` holds the half's codes,
    `sc` its scales and `tab` its tables. -/
def half (word : IVec S6x768x640 32) (sc : FVec Ideal S640 .bf16) (tab : IVec S640x16x6912 32) : FVec Ideal S6x768x6912 .f32 :=
  Host.dotGeneral dot_S6x768x640x16_S640x16x6912_S6x768x6912_23_01_01_2_n_n none
    (mulf (uitofp .bf16 (cmpi .eq
        (broadcastInDim S6x768x640x16 ![0, 1, 2, 3] bcast_S6x768x640x1_S6x768x640x16_0_1_2_3
          (broadcastInDim S6x768x640x1 ![0, 1, 2] bcast_S6x768x640_S6x768x640x1_0_1_2 word))
        (broadcastInDim S6x768x640x16 ![0, 1, 2, 3] bcast_S1x1x1x16_S6x768x640x16_0_1_2_3 (iotaInDim S1x1x1x16 32 3))))
      (broadcastInDim S6x768x640x16 ![0, 1, 2, 3] bcast_S1x1x640x1_S6x768x640x16_0_1_2_3
        (broadcastInDim S1x1x640x1 ![2, 3] bcast_S640x1_S1x1x640x1_2_3 (broadcastInDim S640x1 ![0] bcast_S640_S640x1_0 sc))))
    (sitofp .bf16 tab)

/-- The reference's result as its operations compose it. -/
def result (codes : IVec S6x768x640 8) (tables : IVec S1280x16x6912 8) (scales : FVec Ideal S1280 .f32) : FVec Ideal S6x768x6912 .bf16 :=
  truncf .bf16 (addf
    (half (andi (extui 32 codes natLt_8_32) (broadcastInDim S6x768x640 ![] bcast_S_S6x768x640 (constantI S_ 32 15#32)))
      (Host.slice S640 ![0] ![2] (truncf .bf16 scales bitsLt_bf16_f32) slicesBy_S1280_S640_0s2)
      (shapeCast _ (extractStridedSlice S640x1x16x6912 ![0, 0, 0, 0]
        (shapeCast _ (extsi 32 tables natLt_8_32) shapeCasts_S1280x16x6912_S640x2x16x6912)
        slices_S640x2x16x6912_S640x1x16x6912_0_0_0_0) shapeCasts_S640x1x16x6912_S640x16x6912))
    (half (Host.shrsi (extui 32 codes natLt_8_32) (broadcastInDim S6x768x640 ![] bcast_S_S6x768x640 (constantI S_ 32 4#32)))
      (Host.slice S640 ![1] ![2] (truncf .bf16 scales bitsLt_bf16_f32) slicesBy_S1280_S640_1s2)
      (shapeCast _ (extractStridedSlice S640x1x16x6912 ![0, 1, 0, 0]
        (shapeCast _ (extsi 32 tables natLt_8_32) shapeCasts_S1280x16x6912_S640x2x16x6912)
        slices_S640x2x16x6912_S640x1x16x6912_0_1_0_0) shapeCasts_S640x1x16x6912_S640x16x6912)))
    bitsLt_bf16_f32

/-- An entry of a half: the sum over its codes and the sixteen table columns of each code's part. -/
theorem half_at (word : IVec S6x768x640 32) (sc : FVec Ideal S640 .bf16) (tab : IVec S640x16x6912 32)
    (b : Fin 6) (s : Fin 768) (n : Fin 6912) :
    (half word sc tab (ix3 b s n) : EReal) = ∑ j : Fin 640, ∑ k : Fin 16,
      (FloatOps.uitofp (F := Ideal) FTy.bf16 (IntOp.cmpi CmpIPredicate.eq (word (ix3 b s j)) (BitVec.ofNat 32 k.val)) : EReal)
        * sc (ix1 j) * (FloatOps.sitofp (F := Ideal) FTy.bf16 (tab (ix3 j k n)) : EReal) := by
  pointwise [half]

/-- An entry of the reference's result: byte `j` of the row adds its low code's parts, from table row `2j`, and its high code's parts, from
    table row `2j + 1`. -/
theorem result_at (codes : IVec S6x768x640 8) (tables : IVec S1280x16x6912 8) (scales : FVec Ideal S1280 .f32)
    (b : Fin 6) (s : Fin 768) (n : Fin 6912) :
    (result codes tables scales (ix3 b s n) : EReal) =
      (∑ j : Fin 640, ∑ k : Fin 16, part (low (codes (ix3 b s j))) k (scales (ix1 ⟨2 * j.val, by omega⟩))
        (tables (ix3 ⟨j.val * 2, by omega⟩ k n)))
      + ∑ j : Fin 640, ∑ k : Fin 16, part (high (codes (ix3 b s j))) k (scales (ix1 ⟨1 + 2 * j.val, by omega⟩))
        (tables (ix3 ⟨j.val * 2 + 1, by omega⟩ k n)) := by
  simp only [← oneHot_eq_part, low, high]
  unfold result
  pointwise [half]

/-- The reference ends with `result` of its arguments in the result array, and leaves the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Ref
-- ==== Proof.Equation.lean ====
module

public import proofs.«01_k».proof.Proof.Operands
public import proofs.«01_k».proof.Proof.Reference

@[expose] public section

set_option maxRecDepth 16384

noncomputable section

namespace Cert.Equation

open Idealize.ShloMosaic Idealize.ShloMosaic.TcCoe Idealize.ShloMosaic.Tactic
open Cert.KernelIdeal Cert.KernelIdeal.Gen Cert.KernelIdeal.Fold Cert.KernelIdeal.Operands Cert.Words

variable (m : (ℓ : Loc nD τ sig) → Buf (Elt Ideal) ℓ)

/-- Column `k`'s share of an entry of the array, in the launch's operands: the sum of the parts of the row's 1280 codes. -/
theorem share_eq (c : Dev nD) (k : Fin 16) (x : Fin 4608) (n : Fin 6912) :
    share m c k x n = ∑ q : Fin 1280,
      part (BitVec.signExtend 32 (codesV m c (ix2 x q))) k (scalesV m c (ix2 0 q)) (tablesV m c (ix3 k q n)) := rfl

/-- A part of the first half, in the arguments: the low code of byte `j`, with scale and table row `2j`. -/
theorem part_low (c : Dev nD) (b : Fin 6) (s : Fin 768) (n : Fin 6912) (k : Fin 16) (x : Fin 4608) (hx : x.val = 768 * b.val + s.val)
    (q : Fin 1280) (j : Fin 640) (hq : q.val = j.val) :
    part (BitVec.signExtend 32 (codesV m c (ix2 x q))) k (scalesV m c (ix2 0 q)) (tablesV m c (ix3 k q n))
      = part (low (codesA m c (ix3 b s j))) k (scalesA m c (ix1 ⟨2 * j.val, by omega⟩)) (tablesA m c (ix3 ⟨j.val * 2, by omega⟩ k n)) := by
  have hb : (⟨x.val / 768, by omega⟩ : Fin 6) = b := Fin.ext (by show x.val / 768 = b.val; omega)
  have hs : (⟨x.val % 768, by omega⟩ : Fin 768) = s := Fin.ext (by show x.val % 768 = s.val; omega)
  have hj : (⟨q.val, by omega⟩ : Fin 640) = j := Fin.ext hq
  have h1 : (⟨q.val % 640 * 2 + q.val / 640, by omega⟩ : Fin 1280) = ⟨2 * j.val, by omega⟩ :=
    Fin.ext (by show q.val % 640 * 2 + q.val / 640 = 2 * j.val; omega)
  have h2 : (⟨2 * j.val, by omega⟩ : Fin 1280) = ⟨j.val * 2, by omega⟩ := Fin.ext (Nat.mul_comm _ _)
  rw [codes_at, scales_at, tables_at, dif_pos (by omega), low_byte, hb, hs, hj, h1, h2]

/-- A part of the second half, in the arguments: the high code of byte `j`, with scale and table row `2j + 1`. -/
theorem part_high (c : Dev nD) (b : Fin 6) (s : Fin 768) (n : Fin 6912) (k : Fin 16) (x : Fin 4608) (hx : x.val = 768 * b.val + s.val)
    (q : Fin 1280) (j : Fin 640) (hq : q.val = 640 + j.val) :
    part (BitVec.signExtend 32 (codesV m c (ix2 x q))) k (scalesV m c (ix2 0 q)) (tablesV m c (ix3 k q n))
      = part (high (codesA m c (ix3 b s j))) k (scalesA m c (ix1 ⟨1 + 2 * j.val, by omega⟩))
          (tablesA m c (ix3 ⟨j.val * 2 + 1, by omega⟩ k n)) := by
  have hb : (⟨x.val / 768, by omega⟩ : Fin 6) = b := Fin.ext (by show x.val / 768 = b.val; omega)
  have hs : (⟨x.val % 768, by omega⟩ : Fin 768) = s := Fin.ext (by show x.val % 768 = s.val; omega)
  have hj : (⟨q.val - 640, by omega⟩ : Fin 640) = j := Fin.ext (by show q.val - 640 = j.val; omega)
  have h1 : (⟨q.val % 640 * 2 + q.val / 640, by omega⟩ : Fin 1280) = ⟨1 + 2 * j.val, by omega⟩ :=
    Fin.ext (by show q.val % 640 * 2 + q.val / 640 = 1 + 2 * j.val; omega)
  have h2 : (⟨1 + 2 * j.val, by omega⟩ : Fin 1280) = ⟨j.val * 2 + 1, by omega⟩ :=
    Fin.ext (by show 1 + 2 * j.val = j.val * 2 + 1; omega)
  rw [codes_at, scales_at, tables_at, dif_neg (by omega), high_byte, hb, hs, hj, h1, h2]

/-- Row `768 b + s` of the kernel's array is row `s` of batch `b` of the reference's result. -/
theorem entry_eq (c : Dev nD) (b : Fin 6) (s : Fin 768) (n : Fin 6912) (x : Fin 4608) (hx : x.val = 768 * b.val + s.val) :
    (Fold.result m c (ix2 x n) : EReal)
      = Cert.ReferenceIdeal.Ref.result (codesA m c) (tablesA m c) (scalesA m c) (ix3 b s n) := by
  rw [Cert.ReferenceIdeal.Ref.result_at]
  show (∑ k : Fin 16, share m c k x n) = _
  simp only [share_eq]
  rw [Finset.sum_comm, Fin.sum_univ_two_halves 640 640 rfl]
  refine Ideal.add_congr (Finset.sum_congr rfl fun j _ => Finset.sum_congr rfl fun k _ => ?_)
    (Finset.sum_congr rfl fun j _ => Finset.sum_congr rfl fun k _ => ?_)
  · exact part_low m c b s n k x hx _ j rfl
  · exact part_high m c b s n k x hx _ j rfl

/-- The kernel's array, cut into its six batches, is the reference's result. -/
theorem result_eq (c : Dev nD) :
    (shapeCast S6x768x6912 (Fold.result m c) shapeCasts_S4608x6912_S6x768x6912 : Vec Ideal S6x768x6912 .bf16)
      = Cert.ReferenceIdeal.Ref.result (codesA m c) (tablesA m c) (scalesA m c) := by
  funext i
  idx_vars i
  pointwise
  exact entry_eq m c i0 i1 i2 _ (congrArg (· + i1.val) (Nat.mul_comm _ _))

end Cert.Equation
-- ==== Proof.Run.lean ====
module

public import proofs.«01_k».proof.Proof.Fold
public import Idealize.ShloMosaic.Lib.Claim

@[expose] public section

set_option maxRecDepth 16384

noncomputable section

namespace Cert.KernelIdeal.Run

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

/-- The line after the launch reads the launch's result array and cuts its rows into the six batches. -/
theorem tail_eq (c : Dev nD) :
    Pipeline.afterTail₀ cfgs (dats m) 0 (V0 m) [hostOps1] c main_v17
      = (shapeCast S6x768x6912 (Fold.result m c) shapeCasts_S4608x6912_S6x768x6912 : Vec Ideal S6x768x6912 .bf16) := by
  have h : Pipeline.withArrays (cfgs 0).spec c (V0 m c) (fun w => (dats m 0 c).arrAt w (cfgs 0).N) (Proc.devRef .tc main_v16)
      = Fold.result m c :=
    (Pipeline.withArrays_arr (cfgs 0).spec (by decide) c (V0 m c) (fun w => (dats m 0 c).arrAt w (cfgs 0).N) 3).trans (Fold.final m c)
  unfold Pipeline.afterTail₀
  simp only [List.flatten_cons, List.flatten_nil, List.append_nil]
  after_results
  rw [h]
  rfl

/-- The kernel ends with the array of `Fold.result`, cut into its six batches, in the result array, and leaves the arguments as they
    were. -/
theorem run : θ_run defs (onTc (τ := τ) (main (F := Ideal))) ⟨m, fun _ => 0, ρ⟩ fun r => ∀ c : Dev nD,
      r.2.mem ((c.tc : Thread nD τ).loc main_v17)
        = (shapeCast S6x768x6912 (Fold.result m c) shapeCasts_S4608x6912_S6x768x6912 : Vec Ideal S6x768x6912 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.rest_eq c main_v17 (by decide)).trans (tail_eq m c), h.2 c⟩)
    (θ_run_and (run_main m ρ) (unchanged m ρ))

end Cert.KernelIdeal.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Run
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves its arguments as they were and every semaphore counter at zero. -/
theorem reference_quiescent : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Ref.run m ρ)

/-- Over exact arithmetic the kernel and the reference end with the same result array, from equal arguments. -/
theorem kernel_eq_reference : Cert.algebraic_KernelIdeal_ReferenceIdeal := fun m g m' g' _ hagree =>
  ⟨fun c => Cert.ReferenceIdeal.Ref.result (Cert.KernelIdeal.Operands.codesA m c) (Cert.KernelIdeal.Operands.tablesA m c)
      (Cert.KernelIdeal.Operands.scalesA m c),
    (θ_run _ _ _).mono (fun _ h c => ⟨(h c).1.trans (Cert.Equation.result_eq m c), (h c).2⟩) (Cert.KernelIdeal.Run.run m g),
    (θ_run _ _ _).mono (fun _ h c => ⟨(h c).1.trans (by rw [(hagree c).1, (hagree c).2.1, (hagree c).2.2]), (h c).2⟩)
      (Cert.ReferenceIdeal.Ref.run m' g')⟩

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent, trivial,
    kernel_eq_reference⟩

end Cert.Proof

end
